-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_table [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_table [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel)
    ∧ quiescent_KernelIdeal (hKernelIdeal := hKernelIdeal)
    ∧ quiescent_KernelIdeal_pre_in_table (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal_pre_in_table (hKernelIdeal := hKernelIdeal) (hReferenceIdeal := hReferenceIdeal) (hPre_in_table := hPre_in_table)
-- ==== Pre_in_table.lean ====
abbrev S100000x7 : Shape := ⟨2, ![100000, 7]⟩
abbrev S100352 : Shape := ⟨1, ![100352]⟩
abbrev S7x128 : Shape := ⟨2, ![7, 128]⟩
abbrev S128 : Shape := ⟨1, ![128]⟩
abbrev S10x128 : Shape := ⟨2, ![10, 128]⟩
abbrev S100000 : Shape := ⟨1, ![100000]⟩
abbrev S_ : Shape := ⟨0, ![]⟩

class Facts : Prop where
  slices_S100352_S100000_0 : S100352.Slices ![0] S100000
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x7 .f32) (main_arg1 : IVec S100352 32) (main_arg2 : IVec S100352 32) (main_arg3 : FVec F S7x128 .f32) (main_arg4 : FVec F S128 .f32) (main_arg5 : FVec F S10x128 .f32) : IVec S_ 1 :=
  let main_v0 : IVec S100352 32 := addi main_arg1 main_arg2
  let main_v1 : IVec S100000 32 := (extractStridedSlice S100000 ![0] · slices_S100352_S100000_0) main_v0
  let main_c : IVec S_ 32 := constantI S_ 32 0#32
  let main_v2 : IVec S100000 32 := broadcastInDim S100000 ![] bcast_S_S100000 main_c
  let main_v3 : IVec S100000 1 := cmpi .sge main_v1 main_v2
  let main_c_0 : IVec S_ 32 := constantI S_ 32 20#32
  let main_v4 : IVec S100000 32 := broadcastInDim S100000 ![] bcast_S_S100000 main_c_0
  let main_v5 : IVec S100000 1 := cmpi .slt main_v1 main_v4
  let main_v6 : IVec S100000 1 := andi main_v3 main_v5
  let main_c_1 : IVec S_ 1 := constantI S_ 1 1#1
  let main_v7 : IVec S_ 1 := (fun x v => Host.reduce IntOp.andi x v reducesTo_S100000_S_d0 h_S_) main_v6 main_c_1
  main_v7
-- ==== Kernel.lean ====
abbrev S100000x7 : Shape := ⟨2, ![100000, 7]⟩
abbrev S100352 : Shape := ⟨1, ![100352]⟩
abbrev S7x128 : Shape := ⟨2, ![7, 128]⟩
abbrev S128 : Shape := ⟨1, ![128]⟩
abbrev S10x128 : Shape := ⟨2, ![10, 128]⟩
abbrev S_ : Shape := ⟨0, ![]⟩
abbrev S23x128 : Shape := ⟨2, ![23, 128]⟩
abbrev S1 : Shape := ⟨1, ![1]⟩
abbrev S1x128 : Shape := ⟨2, ![1, 128]⟩
abbrev S8x1x12544 : Shape := ⟨3, ![8, 1, 12544]⟩
abbrev S7x100000 : Shape := ⟨2, ![7, 100000]⟩
abbrev S100000x128 : Shape := ⟨2, ![100000, 128]⟩
abbrev S1x1x12544 : Shape := ⟨3, ![1, 1, 12544]⟩
abbrev S7x12544 : Shape := ⟨2, ![7, 12544]⟩
abbrev S12544x128 : Shape := ⟨2, ![12544, 128]⟩
abbrev S12544 : Shape := ⟨1, ![12544]⟩
abbrev S12544x1 : Shape := ⟨2, ![12544, 1]⟩
abbrev S12544x16 : Shape := ⟨2, ![12544, 16]⟩
abbrev S16x128 : Shape := ⟨2, ![16, 128]⟩

abbrev nBuf : Space → Nat
  | .hbm => 21
  | .vmem => 9
  | .smem => 0
  | _ => 0

abbrev bufTy : (tb : Table) → Fin (tcTables nBuf tb) → BufTy
  | .hbm, ⟨0, _⟩ => ⟨S100000x7, .f32⟩
  | .hbm, ⟨1, _⟩ => ⟨S100352, .i32⟩
  | .hbm, ⟨2, _⟩ => ⟨S100352, .i32⟩
  | .hbm, ⟨3, _⟩ => ⟨S7x128, .f32⟩
  | .hbm, ⟨4, _⟩ => ⟨S128, .f32⟩
  | .hbm, ⟨5, _⟩ => ⟨S10x128, .f32⟩
  | .hbm, ⟨6, _⟩ => ⟨S_, .f32⟩
  | .hbm, ⟨7, _⟩ => ⟨S23x128, .f32⟩
  | .hbm, ⟨8, _⟩ => ⟨S_, .i32⟩
  | .hbm, ⟨9, _⟩ => ⟨S1, .i32⟩
  | .hbm, ⟨10, _⟩ => ⟨S23x128, .f32⟩
  | .hbm, ⟨11, _⟩ => ⟨S1x128, .f32⟩
  | .hbm, ⟨12, _⟩ => ⟨S10x128, .f32⟩
  | .hbm, ⟨13, _⟩ => ⟨S10x128, .f32⟩
  | .hbm, ⟨14, _⟩ => ⟨S_, .i32⟩
  | .hbm, ⟨15, _⟩ => ⟨S1, .i32⟩
  | .hbm, ⟨16, _⟩ => ⟨S23x128, .f32⟩
  | .hbm, ⟨17, _⟩ => ⟨S8x1x12544, .i32⟩
  | .hbm, ⟨18, _⟩ => ⟨S8x1x12544, .i32⟩
  | .hbm, ⟨19, _⟩ => ⟨S7x100000, .f32⟩
  | .hbm, ⟨20, _⟩ => ⟨S100000x128, .f32⟩
  | .local _ .vmem, ⟨0, _⟩ => ⟨S1x1x12544, .i32⟩
  | .local _ .vmem, ⟨1, _⟩ => ⟨S1x1x12544, .i32⟩
  | .local _ .vmem, ⟨2, _⟩ => ⟨S1x1x12544, .i32⟩
  | .local _ .vmem, ⟨3, _⟩ => ⟨S1x1x12544, .i32⟩
  | .local _ .vmem, ⟨4, _⟩ => ⟨S7x12544, .f32⟩
  | .local _ .vmem, ⟨5, _⟩ => ⟨S7x12544, .f32⟩
  | .local _ .vmem, ⟨6, _⟩ => ⟨S23x128, .f32⟩
  | .local _ .vmem, ⟨7, _⟩ => ⟨S12544x128, .f32⟩
  | .local _ .vmem, ⟨8, _⟩ => ⟨S12544x128, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x12544 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x12544 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x12544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S23x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S12544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S100000x7 : Shape := ⟨2, ![100000, 7]⟩
abbrev S100352 : Shape := ⟨1, ![100352]⟩
abbrev S7x128 : Shape := ⟨2, ![7, 128]⟩
abbrev S128 : Shape := ⟨1, ![128]⟩
abbrev S10x128 : Shape := ⟨2, ![10, 128]⟩
abbrev S100000x128 : Shape := ⟨2, ![100000, 128]⟩
abbrev S1x128 : Shape := ⟨2, ![1, 128]⟩
abbrev S100000 : Shape := ⟨1, ![100000]⟩
abbrev S_ : Shape := ⟨0, ![]⟩
abbrev S100000x1 : Shape := ⟨2, ![100000, 1]⟩
abbrev S1 : Shape := ⟨1, ![1]⟩
abbrev S1x1 : Shape := ⟨2, ![1, 1]⟩

abbrev nBuf : Space → Nat
  | .hbm => 54
  | .vmem => 0
  | .smem => 0
  | _ => 0

abbrev bufTy : (tb : Table) → Fin (tcTables nBuf tb) → BufTy
  | .hbm, ⟨0, _⟩ => ⟨S100000x7, .f32⟩
  | .hbm, ⟨1, _⟩ => ⟨S100352, .i32⟩
  | .hbm, ⟨2, _⟩ => ⟨S100352, .i32⟩
  | .hbm, ⟨3, _⟩ => ⟨S7x128, .f32⟩
  | .hbm, ⟨4, _⟩ => ⟨S128, .f32⟩
  | .hbm, ⟨5, _⟩ => ⟨S10x128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S100352, .i32⟩
  | .hbm, ⟨11, _⟩ => ⟨S100000, .i32⟩
  | .hbm, ⟨12, _⟩ => ⟨S_, .i32⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S100000, .i32⟩
  | .hbm, ⟨21, _⟩ => ⟨S100000, .i32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S100000, .i1⟩
  | .hbm, ⟨26, _⟩ => ⟨S_, .i32⟩
  | .hbm, ⟨27, _⟩ => ⟨S100000, .i32⟩
  | .hbm, ⟨28, _⟩ => ⟨S100000, .i32⟩
  | .hbm, ⟨29, _⟩ => ⟨S100000, .i32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S1, .i32⟩
  | .hbm, ⟨39, _⟩ => ⟨S_, .i32⟩
  | .hbm, ⟨40, _⟩ => ⟨S100000x1, .i32⟩
  | .hbm, ⟨41, _⟩ => ⟨S100000x1, .i1⟩
  | .hbm, ⟨42, _⟩ => ⟨S1x1, .i32⟩
  | .hbm, ⟨43, _⟩ => ⟨S100000x1, .i32⟩
  | .hbm, ⟨44, _⟩ => ⟨S100000x1, .i1⟩
  | .hbm, ⟨45, _⟩ => ⟨S100000x1, .i1⟩
  | .hbm, ⟨46, _⟩ => ⟨S_, .i1⟩
  | .hbm, ⟨47, _⟩ => ⟨S100000, .i1⟩
  | .hbm, ⟨48, _⟩ => ⟨S100000x128, .f32⟩
  | .hbm, ⟨49, _⟩ => ⟨S100000x128, .i1⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x128, .f32⟩
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v7 : Ref sig .tc := ⟨.hbm, 52, rfl⟩
abbrev main_v8 : Ref sig .tc := ⟨.hbm, 53, rfl⟩

abbrev nD : Nat := 1
abbrev τ : Topo := Topo.v7x

variable {F : FTy → Type} [FloatOps F]
-- ==== Proof.Body.lean ====
/-
  The body of the TensorCore call: the proof data of its pipeline, the triple of the body and the library's obligation.

  Window 2 (the transposed node features) overhangs its array at the last point, so what its staging buffer holds
  past the array's end has no name. The body's product reads those columns too. Hence the result's buffer is held to
  a predicate: it is the body's value over the point's blocks, the features' block filled out by some words.
-/
module

public import proofs.«01_k».proof.Proof.Gen.KernelIdeal.Frame
public import proofs.«01_k».proof.Proof.Gen.KernelIdeal.Skeleton
public import Idealize.ShloMosaic.Lib.Pipeline.DatRel
public import Idealize.ShloMosaic.Lib.Pipeline.Value

@[expose] public section

noncomputable section

namespace Cert.NodeRows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

local notation "𝕄" => MT nD τ sig Unit (Elt F) ℕ (UR sig nD τ) ℕ

variable (m : (ℓ : Loc nD τ sig) → Buf (Elt F) ℓ)

/-! ## What the body leaves -/

/-- The rows of the combined table that multiply the features, -/
abbrev featRows : Rect S23x128 := Rect.unit (s := S23x128) ![0, 0] S7x128.size inb_S23x128_S7x128_0_0
/-- and the rows the degree selects among. -/
abbrev degRows : Rect S23x128 := Rect.unit (s := S23x128) ![7, 0] S16x128.size inb_S23x128_S16x128_7_0

/-- The block the body stores, from the two count blocks, the features' block and the combined table. -/
def rowsOf (x0 x1 : Vec F S1x1x12544 .i32) (x2 : Vec F S7x12544 .f32) (x3 : Vec F S23x128 .f32) : Vec F S12544x128 .f32 :=
  k0_pay1 (k0_pay2 x0 x1) (k0_pay3 x2) (k0_pay4 (View.ld x3 featRows)) (View.ld x3 degRows)

/-- The body on whole staging memrefs: the four inputs are left as found, the result's holds `rowsOf` of them. -/
theorem body_triple (c : Dev nD) (E : Set ℕ) (i : grid0.Coords)
    (arg1 : Memref sig .tc .vmem S1x1x12544 .i32) (harg1 : arg1.IsWhole) (arg2 : Memref sig .tc .vmem S1x1x12544 .i32) (harg2 : arg2.IsWhole)
    (arg3 : Memref sig .tc .vmem S7x12544 .f32) (harg3 : arg3.IsWhole) (arg4 : Memref sig .tc .vmem S23x128 .f32) (harg4 : arg4.IsWhole)
    (arg5 : Memref sig .tc .vmem S12544x128 .f32) (harg5 : arg5.IsWhole)
    (x0 x1 : Vec F S1x1x12544 .i32) (x2 : Vec F S7x12544 .f32) (x3 : Vec F S23x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (rowsOf x0 x1 x2 x3)) -∗ K ⟨⟩))
      ⊢ wp frame (wpE (defs₀ (F := F)) Variants.none c none) E (cc0__tc_body i arg1 harg1 arg2 harg2 arg3 harg3 arg4 harg4 arg5 harg5) K := by
  have z3 : (![0, 0, 0] : Fin 3 → Nat) = fun _ => 0 := funext fun a => by fin_cases a <;> rfl
  have z2 : (![0, 0] : Fin 2 → Nat) = fun _ => 0 := funext fun a => by fin_cases a <;> rfl
  simp only [cc0__tc_body_eq_skeleton]; unfold cc0__tc_body_skel
  unfold owns
  iintro ⟨⟨%f1, %e1, H1⟩, ⟨%f2, %e2, H2⟩, ⟨%f3, %e3, H3⟩, ⟨%f4, %e4, H4⟩, ⟨%d5, %f5, -, H5⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (View.cover_of_tiled _ S12544x128.size (by rfl)), View.canon_unit_zero z2]
  unfold body_triple.sl.r body_triple.sl.r_1 body_triple.sl.r_2 rowsOf
  simp only [View.readAt_eq_ld]
  rw [show View.ld (View.read (Elt F) arg1.view f1) _ = _ from View.ld_unit_zero (S := S1x1x12544) z3 _ _,
    show View.ld (View.read (Elt F) arg2.view f2) _ = _ from View.ld_unit_zero (S := S1x1x12544) z3 _ _,
    show View.ld (View.read (Elt F) arg3.view f3) _ = _ from View.ld_unit_zero (S := S7x12544) z2 _ _]

/-! ## The pipeline's proof data -/

/-- The features' block at point `t`, filled out by `d` past the array's end. -/
def featBlk (c : Dev nD) (t : Fin cfg0.N) (d : S7x12544.Idx → Elt F .f32) : S7x12544.Idx → Elt F .f32 :=
  win0_2.fill (grid0.coords t) d (iblk m c 2 t)

/-- The proof data: every array as the region finds it, every input's buffer left as its block (the features' one is
    filled out by the zero word), nothing owed. What it says of the result's buffer is not read. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => featBlk m c t fun _ => Scalar.ofBits .f32 0#32
    | ⟨3, _⟩ => iblk m c 3 t
    | ⟨4, _⟩ => fun _ => Scalar.ofBits .f32 0#32
  Φ _ := Pipeline.ΦA spec0 c
  q _ := fullShare
  owed _ := 0

theorem dat_A (c : Dev nD) (w : Fin cfg0.W) : (dat m c).A w = V m c (Pipeline.arrRef spec0 w) := by dsimp only [dat]
theorem dat_after_0 (c : Dev nD) (t : Fin cfg0.N) : (dat m c).after 0 t = iblk m c 0 t := by dsimp only [dat]
theorem dat_after_1 (c : Dev nD) (t : Fin cfg0.N) : (dat m c).after 1 t = iblk m c 1 t := by dsimp only [dat]
theorem dat_after_2 (c : Dev nD) (t : Fin cfg0.N) :
    (dat m c).after 2 t = featBlk m c t fun _ => Scalar.ofBits .f32 0#32 := by dsimp only [dat]
theorem dat_after_3 (c : Dev nD) (t : Fin cfg0.N) : (dat m c).after 3 t = iblk m c 3 t := by dsimp only [dat]

theorem dat_before_0 (c : Dev nD) (t : Fin cfg0.N) (d) : (dat m c).before 0 t d = iblk m c 0 t :=
  before0_0_of m (dat m c) (dat_A m c 0) (dat_after_0 m c) t d
theorem dat_before_1 (c : Dev nD) (t : Fin cfg0.N) (d) : (dat m c).before 1 t d = iblk m c 1 t :=
  before0_1_of m (dat m c) (dat_A m c 1) (dat_after_1 m c) t d
theorem dat_before_3 (c : Dev nD) (t : Fin cfg0.N) (d) : (dat m c).before 3 t d = iblk m c 3 t :=
  before0_3_of m (dat m c) (dat_A m c 3) (dat_after_3 m c) t d
/-- The features' buffer is fetched at every point: the block inside the array, anything past its end. -/
theorem dat_before_2 (c : Dev nD) (t : Fin cfg0.N) (d) : (dat m c).before 2 t d = featBlk m c t d := by
  unfold Dat.before; rw [if_pos (fetch0_2 t)]; unfold Dat.fetched Dat.blockOf featBlk iblk; rw [dat_A]

/-- The window whose contents are held to a predicate: the result's. -/
def held (w : Fin cfg0.W) : Bool := w == 4

/-- What the result's buffer may hold after point `t`: the rows of the point's blocks, the features' block filled out
    by some words. -/
def Left (c : Dev nD) (t : Fin cfg0.N) (X : S12544x128.Idx → Elt F .f32) : Prop :=
  ∃ d, X = rowsOf (iblk m c 0 t) (iblk m c 1 t) (featBlk m c t d) (iblk m c 3 t)

/-- `Left` as a predicate of the windows: of no window but the result's does it say anything. -/
def HeldTo (c : Dev nD) (w : Fin cfg0.W) (t : Fin cfg0.N) (X : (cfg0.win w).block.Idx → Elt F (cfg0.win w).elt) : Prop :=
  match w, X with
  | ⟨4, _⟩, X => Left m c t X
  | _, _ => True

/-! ## The obligation -/

/-- The body table's row at a point is the body as the kit spells it. -/
theorem row (t : Fin cfg0.N) : defs₀ (F := F) .tc cfg0.body (cfg0.bodyArgs t (cfg0.slots t)) = bodyAt0 t := by
  unfold defs₀; rw [Defs.onTc_tc]

/-- The body at a point, on what it finds there, leaves what `obligation` asks. -/
theorem body_at (c : Dev nD) (t : Fin cfg0.N) :
    iprop((dat m c).Φ t.castSucc ∗ (dat m c).owesAt () t.castSucc
      ∗ (∃ d, owns (c : Thread nD τ) (st0_0 t) fullShare ((dat m c).before 0 t d))
      ∗ (∃ d, owns (c : Thread nD τ) (st0_1 t) fullShare ((dat m c).before 1 t d))
      ∗ (∃ d, owns (c : Thread nD τ) (st0_2 t) fullShare ((dat m c).before 2 t d))
      ∗ (∃ d, owns (c : Thread nD τ) (st0_3 t) fullShare ((dat m c).before 3 t d))
      ∗ (∃ Y, ⌜((dat m c).toRRel held (HeldTo m c)).Finds 4 t Y⌝ ∗ owns (c : Thread nD τ) (st0_4 t) fullShare Y))
    ⊢ wp frame (wpE (defs₀ (F := F)) Variants.none c none) Set.univ (bodyAt0 t) (fun _ =>
      iprop((dat m c).Φ t.succ ∗ (dat m c).owesAt () t.succ
      ∗ owns (c : Thread nD τ) (st0_0 t) fullShare ((dat m c).after 0 t)
      ∗ owns (c : Thread nD τ) (st0_1 t) fullShare ((dat m c).after 1 t)
      ∗ (∃ d, owns (c : Thread nD τ) (st0_2 t) fullShare
          (win0_2.fill (grid0.coords t) d (win0_2.cut (grid0.coords t) ((dat m c).after 2 t))))
      ∗ owns (c : Thread nD τ) (st0_3 t) fullShare ((dat m c).after 3 t)
      ∗ (∃ X, ⌜HeldTo m c 4 t X⌝ ∗ owns (c : Thread nD τ) (st0_4 t) fullShare X))) := by
  simp only [dat_before_0, dat_before_1, dat_before_2, dat_before_3, dat_after_0, dat_after_1, dat_after_2, dat_after_3]
  rw [show (dat m c).Φ t.succ = (dat m c).Φ t.castSucc from rfl,
    show (dat m c).owesAt () t.succ = (dat m c).owesAt () t.castSucc from rfl,
    show win0_2.cut (grid0.coords t) (featBlk m c t fun _ => Scalar.ofBits .f32 0#32) = iblk m c 2 t from win0_2.cut_fill _ _ _]
  iintro ⟨HΦ, Ho, ⟨%d0, H0⟩, ⟨%d1, H1⟩, ⟨%d2, H2⟩, ⟨%d3, H3⟩, ⟨%d4, -, H4⟩⟩
  iapply (body_triple c Set.univ _ _ _ _ _ _ _ _ _ _ _ (iblk m c 0 t) (iblk m c 1 t) (featBlk m c t d2) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexists d2; iexact H2
  isplitl [H3]; · iexact H3
  iexists _; isplitr
  swap; · iexact H4
  ipureintro
  exact ⟨d2, rfl⟩

theorem obligation (c : Dev nD) :
    BodyObligationRel (dat m c) (defs₀ (F := F)) Variants.none () Set.univ held (HeldTo m c) := fun t => by
  rw [bigSep_W0, bigSep_W0, row]
  exact triple_restated (body_at m c t) rfl .rfl fun _ => .rfl

end Cert.NodeRows

end
-- ==== Proof.Run.lean ====
/-
  The run of the program: every execution ends, the arguments end as launched, the counters end at zero, and the
  result's array is what the blocks left by the body make it. Stated at any float values.
-/
module

public import proofs.«01_k».proof.Proof.Body
public import Idealize.ShloMosaic.Lib.Pipeline.ArrRel

@[expose] public section

noncomputable section

namespace Cert.NodeRows

open Cert.KernelIdeal Cert.KernelIdeal.Gen
open Idealize.ShloMosaic Idealize.ShloMosaic.TcCoe
open Idealize.SL Idealize.SL.RA Idealize.SL.Sem
open Idealize.ShloMosaic.Pipeline (Dat RDat)

variable {F : FTy → Type} [FloatOps F]
variable (m : (ℓ : Loc nD τ sig) → Buf (Elt F) ℓ) (ρ : Dev nD → PrngReg)

/-- The proof data, the result's window held to its predicate. -/
abbrev rdat (c : Dev nD) : RDat τ (Elt F) Unit ℕ (UR sig nD τ) ℕ cfg0 c := (dat m c).toRRel held (HeldTo m c)

set_option backward.isDefEq.respectTransparency.types false in
theorem run_rel : θ_run defs (onTc (τ := τ) (main (F := F))) (s₀ m ρ)
    (fun r => RDat.FramePost cfg0 (rdat m) (V m) r ∧ r.2.sem = fun _ => 0) :=
  RDat.θ_run_frame (Q' := _) cfgs (0 : Fin 1) launch0 defs₀ Variants.none (rdat m) m ρ main
    (hbody := fun c => (obligation m c).toRRel) (hshare := fun c => (dat m c).share_full fun _ => rfl)
    (howed := fun _ _ => rfl) (V := V m) (hmain := hmain m Variants.none) (hA := dat_A m) (hΦ := fun _ _ => rfl)

/-- What the program leaves: the arguments as launched, every counter at zero, and the result's array made by blocks
    that `Left` admits. -/
theorem run : θ_run defs (onTc (τ := τ) (main (F := F))) ⟨m, fun _ => 0, ρ⟩ (fun r =>
    ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)
    ∧ ∀ c : Dev nD, ∃ after : (w : Fin cfg0.W) → Fin cfg0.N → (cfg0.win w).block.Idx → Elt F (cfg0.win w).elt,
        (∀ t, Left m c t (after 4 t))
        ∧ r.2.mem ((c.tc : Thread nD τ).loc main_v11) = ((rdat m c).withAfter after).arrAt 4 cfg0.N) :=
  (θ_run defs _ _).mono (fun r h => by
    obtain ⟨hp, hz⟩ := h
    have rest : ∀ (c : Dev nD) b, b ∈ Pipeline.restRefs sig spec0 → r.2.mem ((c.tc : Thread nD τ).loc b) = V m c b := fun c => (hp c).2
    refine ⟨⟨fun c => ⟨?_, ?_, ?_, ?_, ?_, ?_⟩, hz⟩, fun c => ?_⟩
    · exact (rest c main_arg0 (Pipeline.mem_restRefs_of main_arg0 (by decide) (by decide))).trans (V_main_arg0 m c)
    · exact (rest c main_arg1 (Pipeline.mem_restRefs_of main_arg1 (by decide) (by decide))).trans (V_main_arg1 m c)
    · exact (rest c main_arg2 (Pipeline.mem_restRefs_of main_arg2 (by decide) (by decide))).trans (V_main_arg2 m c)
    · exact (rest c main_arg3 (Pipeline.mem_restRefs_of main_arg3 (by decide) (by decide))).trans (V_main_arg3 m c)
    · exact (rest c main_arg4 (Pipeline.mem_restRefs_of main_arg4 (by decide) (by decide))).trans (V_main_arg4 m c)
    · exact (rest c main_arg5 (Pipeline.mem_restRefs_of main_arg5 (by decide) (by decide))).trans (V_main_arg5 m c)
    · obtain ⟨after, hL, hA⟩ := hp.exists_exact c
      exact ⟨after, fun t => (dat m c).toRRel_leaves (w := 4) rfl (hL 4 t (flush0_4 t)), hA 4⟩)
    (run_rel m ρ)

end Cert.NodeRows

end
-- ==== Proof.DegreeWords.lean ====
/-
  Degree words: both programs halve the sum of the two partial degree counts by a division that rounds down, spelt with
  signs and a remainder. Of a sum below twenty it is a row number of the ten-row table.
-/
module

public import Idealize.ShloMosaic.PureOps
public import Idealize.ShloMosaic.Lib.ReduceAll

@[expose] public section

namespace Cert.NodeRows

open Idealize.ShloMosaic

/-- The kernel's word for the row: the floor division by two of a word, cut off at nine. -/
def rowWord (w : BitVec 32) : BitVec 32 :=
  IntOp.minsi
    (Scalar.select
      (IntOp.andi
        (IntOp.cmpi .ne
          (IntOp.subi ((IntOp.cmpi .sgt w 0#32).setWidth 32) ((IntOp.cmpi .slt w 0#32).setWidth 32))
          (Scalar.subi (Scalar.extui (Scalar.cmpi .sgt 2#32 0#32)) (Scalar.extui (Scalar.cmpi .slt 2#32 0#32))))
        (IntOp.cmpi .ne (IntOp.remsi .vector w 2#32) 0#32))
      (IntOp.subi (IntOp.divsi .vector w 2#32) 1#32) (IntOp.divsi .vector w 2#32))
    9#32

theorem rowWord_small : ∀ n : Fin 20, rowWord (BitVec.ofNat 32 n.val) = BitVec.ofNat 32 (n.val / 2) := by
  decide +kernel

/-- The sign of a word as the reference takes it. -/
def signWord (w : BitVec 32) : BitVec 32 := if w = 0 then 0 else if w.msb = true then -1 else 1

/-- The reference's word for half of a word, rounded down. -/
def halfWord (w : BitVec 32) : BitVec 32 :=
  Scalar.select
    (IntOp.andi (IntOp.cmpi .ne (signWord w) (signWord 2#32)) (IntOp.cmpi .ne (IntOp.remsi .host w 2#32) 0#32))
    (IntOp.subi (IntOp.divsi .host w 2#32) 1#32) (IntOp.divsi .host w 2#32)

/-- The reference's word for the row: half of the word, a negative one counted from the table's end. -/
def lookupWord (w : BitVec 32) : BitVec 32 :=
  Scalar.select (IntOp.cmpi .slt (halfWord w) 0#32) (IntOp.addi (halfWord w) 10#32) (halfWord w)

theorem lookupWord_small : ∀ n : Fin 20, lookupWord (BitVec.ofNat 32 n.val) = BitVec.ofNat 32 (n.val / 2) := by
  decide +kernel

/-- A word found between zero and twenty is a number below twenty. -/
theorem small_of_checks (w : BitVec 32) (h : IntOp.andi (IntOp.cmpi .sge w 0#32) (IntOp.cmpi .slt w 20#32) = 1#1) :
    ∃ n : Fin 20, w = BitVec.ofNat 32 n.val := by
  obtain ⟨h0, h1⟩ := IntOp.andi_eq_one.1 h
  have one : ∀ b : Bool, BitVec.ofBool b = 1#1 → b = true := by decide
  have i0 : (0 : ℤ) ≤ w.toInt := of_decide_eq_true (one _ h0)
  have i1 : w.toInt < 20 := of_decide_eq_true (one _ h1)
  have hw := w.isLt
  rw [BitVec.toInt_eq_toNat_cond] at i0 i1
  refine ⟨⟨w.toNat, by split at i0 <;> split at i1 <;> omega⟩, BitVec.eq_of_toNat_eq ?_⟩
  rw [BitVec.toNat_ofNat, Nat.mod_eq_of_lt hw]

end Cert.NodeRows

end
-- ==== Proof.Entry.lean ====
/-
  An element of the result, as both programs are shown to compute it: a row of the features times a column of the weights,
  plus the bias, plus a row of the degree table.
-/
module

public import Idealize.ShloMosaic.PureOps
public import Idealize.ShloMosaic.PureOps.Ideal
public import Idealize.ShloMosaic.Lib.Pointwise

@[expose] public section

noncomputable section

namespace Cert.NodeRows

open Idealize.ShloMosaic
open scoped BigOperators

/-- The element at row `r` and column `j`, the table read at row `k`. -/
def entry (x : Vec Ideal ⟨2, ![100000, 7]⟩ .f32) (w : Vec Ideal ⟨2, ![7, 128]⟩ .f32) (b : Vec Ideal ⟨1, ![128]⟩ .f32)
    (table : Vec Ideal ⟨2, ![10, 128]⟩ .f32) (r : Fin 100000) (j : Fin 128) (k : Fin 10) : EReal :=
  ((∑ i : Fin 7, x (ix2 r i) * w (ix2 i j) : EReal) + b (ix1 j)) + table (ix2 k j)

end Cert.NodeRows

end
-- ==== Proof.RefValue.lean ====
/-
  The reference's result read at an element over the extended reals.
-/
module

public import proofs.«01_k».proof.Proof.Gen.ReferenceIdeal.Run
public import proofs.«01_k».proof.Proof.DegreeWords
public import proofs.«01_k».proof.Proof.Entry
public import Idealize.ShloMosaic.Lib.Pointwise
public import Idealize.ShloMosaic.Lib.ReduceAll
public import Idealize.ShloMosaic.Lib.Routing.Ops
public import Idealize.ShloMosaic.Lib.Tactic.CleanTypes
public import Idealize.ShloMosaic.PureOps.Ideal

@[expose] public section

noncomputable section

namespace Cert.NodeRows.Plain

open Cert.ReferenceIdeal Cert.ReferenceIdeal.Gen Cert.ReferenceIdeal.Value
open Idealize.ShloMosaic Idealize.ShloMosaic.TcCoe
open scoped BigOperators

/-- A select at an element whose condition is one takes the first. -/
theorem select_one {s : Shape} {α : Type} (p : IVec s 1) (a b : s.Idx → α) (i : s.Idx) (h : p i = 1#1) : select p a b i = a i := by
  show Scalar.select (p i) (a i) (b i) = a i
  rw [h]
  exact if_pos rfl

/-- The reference's lookup at row numbers every one of which is the table's: the table's row, the filler never taken. -/
theorem lookup_apply (table : Vec Ideal S10x128 .f32) (fill : Vec Ideal S100000x128 .f32) (rows : IVec S100000x1 32)
    (h : ∀ i, ∃ k : Fin 10, rows i = BitVec.ofNat 32 k.val) (r : Fin 100000) (j : Fin 128) (k : Fin 10)
    (hk : rows (ix2 r 0) = BitVec.ofNat 32 k.val) :
    select (broadcastInDim S100000x128 ![0] bcast_S100000_S100000x128_0 (Host.reduce IntOp.andi
        (andi (cmpi .sge rows (broadcastInDim S100000x1 ![] bcast_S_S100000x1 (constantI S_ 32 0#32)))
          (cmpi .sle rows (broadcastInDim S100000x1 ![0, 1] bcast_S1x1_S100000x1_0_1
            (broadcastInDim S1x1 ![1] bcast_S1_S1x1_1 (constantI S1 32 9#32)))))
        (constantI S_ 1 1#1) reducesTo_S100000x1_S100000_d1 h_S_))
      (Host.gather gather_S10x128_S100000x1_S100000x128_1_0_n_n_0_1_1128 table rows) fill (ix2 r j) = table (ix2 k j) := by
  refine (select_one _ _ _ _ ?_).trans
    (Routing.gather_row gather_S10x128_S100000x1_S100000x128_1_0_n_n_0_1_1128 rfl rfl rfl rfl rfl table rows r j k hk (by omega))
  refine Host.reduce_andi_one _ _ _ _ _ rfl fun i => ?_
  obtain ⟨a, ha⟩ := h i
  show IntOp.andi (IntOp.cmpi .sge (rows i) 0#32) (IntOp.cmpi .sle (rows i) 9#32) = 1#1
  rw [ha]
  exact (by decide +kernel : ∀ a : Fin 10, IntOp.andi (IntOp.cmpi .sge (BitVec.ofNat 32 a.val) 0#32)
    (IntOp.cmpi .sle (BitVec.ofNat 32 a.val) 9#32) = 1#1) a

/-- The same where the row numbers are the reference's words of sums below twenty: the row of half of the sum. -/
theorem lookup_sums (table : Vec Ideal S10x128 .f32) (fill : Vec Ideal S100000x128 .f32) (words : IVec S100000 32)
    (sum : Fin 100000 → BitVec 32) (h : ∀ r, ∃ n : Fin 20, sum r = BitVec.ofNat 32 n.val) (r : Fin 100000) (j : Fin 128)
    (n : Fin 20) (hn : sum r = BitVec.ofNat 32 n.val) (hw : ∀ r, words (ix1 r) = lookupWord (sum r)) :
    select (broadcastInDim S100000x128 ![0] bcast_S100000_S100000x128_0 (Host.reduce IntOp.andi
        (andi (cmpi .sge (broadcastInDim S100000x1 ![0] bcast_S100000_S100000x1_0 words)
            (broadcastInDim S100000x1 ![] bcast_S_S100000x1 (constantI S_ 32 0#32)))
          (cmpi .sle (broadcastInDim S100000x1 ![0] bcast_S100000_S100000x1_0 words)
            (broadcastInDim S100000x1 ![0, 1] bcast_S1x1_S100000x1_0_1
              (broadcastInDim S1x1 ![1] bcast_S1_S1x1_1 (constantI S1 32 9#32)))))
        (constantI S_ 1 1#1) reducesTo_S100000x1_S100000_d1 h_S_))
      (Host.gather gather_S10x128_S100000x1_S100000x128_1_0_n_n_0_1_1128 table
        (broadcastInDim S100000x1 ![0] bcast_S100000_S100000x1_0 words)) fill (ix2 r j) = table (ix2 ⟨n.val / 2, by omega⟩ j) := by
  have key : ∀ r (z : Fin 1) (n : Fin 20), sum r = BitVec.ofNat 32 n.val →
      broadcastInDim S100000x1 ![0] bcast_S100000_S100000x1_0 words (ix2 r z) = BitVec.ofNat 32 (n.val / 2) := fun r z n hn => by
    pointwise
    exact (hw r).trans (by rw [hn, lookupWord_small])
  refine lookup_apply table fill _ (fun i => ?_) r j ⟨n.val / 2, by omega⟩ (key r 0 n hn)
  obtain ⟨a, z, rfl⟩ : ∃ a z, i = ix2 a z := ⟨i 0, i 1, (ix2_eta i).symm⟩
  obtain ⟨n, hn⟩ := h a
  exact ⟨⟨n.val / 2, by omega⟩, key a z n hn⟩

/-- The reference's result at row `r` and column `j`, every row's two counts adding to a number below twenty and that row's
    to `n`: the features' product and the bias, plus the table's row of half of `n`. -/
theorem result_apply (m : (ℓ : Loc nD τ sig) → Buf (Elt Ideal) ℓ) (c : Dev nD)
    (h : ∀ r : Fin 100000, ∃ n : Fin 20, IntOp.addi (m ((c.tc : Thread nD τ).loc main_arg1) (ix1 ⟨r.val, by omega⟩))
      (m ((c.tc : Thread nD τ).loc main_arg2) (ix1 ⟨r.val, by omega⟩)) = BitVec.ofNat 32 n.val)
    (r : Fin 100000) (j : Fin 128) (n : Fin 20)
    (hn : IntOp.addi (m ((c.tc : Thread nD τ).loc main_arg1) (ix1 ⟨r.val, by omega⟩))
      (m ((c.tc : Thread nD τ).loc main_arg2) (ix1 ⟨r.val, by omega⟩)) = BitVec.ofNat 32 n.val) :
    res_out0 m c (ix2 r j)
      = entry (m ((c.tc : Thread nD τ).loc main_arg0)) (m ((c.tc : Thread nD τ).loc main_arg3))
          (m ((c.tc : Thread nD τ).loc main_arg4)) (m ((c.tc : Thread nD τ).loc main_arg5)) r j ⟨n.val / 2, by omega⟩ := by
  unfold res_out0 res_main_v8
  clean_types
  refine congrArg₂ (fun a b : EReal => a + b) ?_ (lookup_sums _ _ _ _ h r j n hn fun r => ?_)
  · pointwise
  · pointwise [lookupWord, halfWord, signWord]
    rfl

end Cert.NodeRows.Plain

end
-- ==== Proof.BlockValue.lean ====
/-
  The block the body stores, read at an element over the extended reals.
-/
module

public import proofs.«01_k».proof.Proof.Body
public import proofs.«01_k».proof.Proof.DegreeWords
public import Idealize.ShloMosaic.Lib.Pointwise
public import Idealize.ShloMosaic.PureOps.Ideal

@[expose] public section

noncomputable section

namespace Cert.NodeRows

open Cert.KernelIdeal Cert.KernelIdeal.Gen
open Idealize.ShloMosaic
open scoped BigOperators

/-- A word compared with a word and made a float: one where they agree, zero elsewhere. -/
theorem indicator (a b : BitVec 32) :
    (FloatOps.sitofp (F := Ideal) .f32 ((IntOp.cmpi .eq a b).setWidth 32) : EReal) = if a = b then 1 else 0 := by
  by_cases h : a = b
  · subst h; rw [if_pos rfl]; simp [IntOp.cmpi, FloatOps.sitofp]
  · rw [if_neg h]; simp [IntOp.cmpi, FloatOps.sitofp, beq_eq_false_iff_ne.mpr h]

/-- The block's element at row `r` and column `j`, the row's two counts adding to `n`: the features' product, plus the
    table's row of half of `n`. -/
theorem rowsOf_apply (x0 x1 : Vec Ideal S1x1x12544 .i32) (x2 : Vec Ideal S7x12544 .f32) (x3 : Vec Ideal S23x128 .f32)
    (r : Fin 12544) (j : Fin 128) (n : Fin 20) (hn : IntOp.addi (x0 (ix3 0 0 r)) (x1 (ix3 0 0 r)) = BitVec.ofNat 32 n.val) :
    rowsOf x0 x1 x2 x3 (ix2 r j)
      = (∑ k : Fin 7, x2 (ix2 k r) * x3 (ix2 ⟨k.val, by omega⟩ j) : EReal) + x3 (ix2 ⟨7 + n.val / 2, by omega⟩ j) := by
  have e : ∀ k : Fin 16, (FloatOps.sitofp (F := Ideal) .f32 ((IntOp.cmpi .eq
      (rowWord (IntOp.addi (x0 (ix3 0 0 r)) (x1 (ix3 0 0 r)))) (BitVec.ofNat 32 k.val)).setWidth 32) : EReal)
      = if k = ⟨n.val / 2, by omega⟩ then 1 else 0 := fun k => by
    rw [hn, rowWord_small, indicator]
    refine if_congr ⟨fun q => ?_, fun q => by rw [q]⟩ rfl rfl
    have q' := congrArg BitVec.toNat q
    simp only [BitVec.toNat_ofNat] at q'
    exact Fin.ext (by show k.val = n.val / 2; omega)
  pointwise [rowsOf, k0_pay1, k0_pay2, k0_pay3, k0_pay4, featRows, degRows]
  refine congrArg (_ + ·) ?_
  refine (Finset.sum_congr rfl fun k _ => congrArg (· * _) (e k)).trans ?_
  rw [Finset.sum_eq_single ⟨n.val / 2, by omega⟩ (fun k _ hk => by rw [if_neg hk, zero_mul])
    (fun h => absurd (Finset.mem_univ _) h), if_pos rfl, one_mul]

end Cert.NodeRows

end
-- ==== Proof.HostArrays.lean ====
/-
  What the host code hands the TensorCore call, read at an element.
-/
module

public import proofs.«01_k».proof.Proof.Gen.KernelIdeal.Frame
public import Idealize.ShloMosaic.Lib.StableHlo.ReadAt
public import Idealize.ShloMosaic.Lib.Pointwise
public import Idealize.ShloMosaic.Lib.Routing.OpsSet
public import Idealize.ShloMosaic.PureOps.Ideal

@[expose] public section

noncomputable section

namespace Cert.NodeRows

open Cert.KernelIdeal Cert.KernelIdeal.Gen
open Idealize.ShloMosaic Idealize.ShloMosaic.TcCoe Idealize.ShloMosaic.StableHlo
open scoped BigOperators

variable {F : FTy → Type} [FloatOps F]
variable (m : (ℓ : Loc nD τ sig) → Buf (Elt F) ℓ) (c : Dev nD)

/-- The first partial count's array is the argument cut into eight rows, -/
theorem counts0_at (t : Fin 8) (r : Fin 12544) :
    V m c main_v8 (ix3 t 0 r) = m ((c.tc : Thread nD τ).loc main_arg1) (ix1 ⟨t.val * 12544 + r.val, by omega⟩) := by
  unfold V
  after_reads_at

/-- the second's likewise, -/
theorem counts1_at (t : Fin 8) (r : Fin 12544) :
    V m c main_v9 (ix3 t 0 r) = m ((c.tc : Thread nD τ).loc main_arg2) (ix1 ⟨t.val * 12544 + r.val, by omega⟩) := by
  unfold V
  after_reads_at

/-- and the features are transposed. -/
theorem feats_at (k : Fin 7) (r : Fin 100000) : V m c main_v10 (ix2 k r) = m ((c.tc : Thread nD τ).loc main_arg0) (ix2 r k) := by
  unfold V
  after_reads_at

/-! ## The combined table -/

/-- Where a block of `p` rows written into the table at a row lands, the row a literal word: at that row and below. -/
theorem lands {p : ℕ} (d : ScatterDims S23x128 S1 ⟨2, ![p, 128]⟩) (hu : d.updateWindowDims = [0, 1])
    (hi : d.insertedWindowDims = []) (hs : d.scatterDimsToOperandDims = [0]) (off : ℕ) (ho : off + p ≤ 23)
    (idx : IVec S1 32) (hx : ∀ i, idx i = BitVec.ofNat 32 off) (k : Fin p) (j : Fin 128) :
    d.resultIdx? (ix2 k j) idx = some (ix2 ⟨off + k.val, by omega⟩ j) := by
  obtain ⟨uw, iw, sd, iv, wf⟩ := d
  subst hu hi hs
  have s0 : (ScatterDims.mk [0, 1] [] [0] iv wf : ScatterDims S23x128 S1 ⟨2, ![p, 128]⟩).start (ix2 k j) idx 0 = off := by
    unfold ScatterDims.start
    rw [dif_pos (List.mem_singleton.2 rfl), hx, StableHlo.Predicate.toInt_ofNat_small _ (by omega)]
  have s1 : (ScatterDims.mk [0, 1] [] [0] iv wf : ScatterDims S23x128 S1 ⟨2, ![p, 128]⟩).start (ix2 k j) idx 1 = 0 := rfl
  have w0 : (ScatterDims.mk [0, 1] [] [0] iv wf : ScatterDims S23x128 S1 ⟨2, ![p, 128]⟩).window (ix2 k j) 0 = k.val := rfl
  have w1 : (ScatterDims.mk [0, 1] [] [0] iv wf : ScatterDims S23x128 S1 ⟨2, ![p, 128]⟩).window (ix2 k j) 1 = j.val := rfl
  unfold ScatterDims.resultIdx?
  rw [dif_pos (fun a => by
    match a with
    | ⟨0, _⟩ => exact ⟨by rw [show (⟨0, _⟩ : Fin 2) = 0 from rfl, s0, w0]; omega,
        by rw [show (⟨0, _⟩ : Fin 2) = 0 from rfl, s0, w0]; show (_ : ℤ) < 23; omega⟩
    | ⟨1, _⟩ => exact ⟨by rw [show (⟨1, _⟩ : Fin 2) = 1 from rfl, s1, w1]; omega,
        by rw [show (⟨1, _⟩ : Fin 2) = 1 from rfl, s1, w1]; show (_ : ℤ) < 128; omega⟩)]
  refine congrArg some (funext fun a => Fin.ext ?_)
  match a with
  | ⟨0, _⟩ =>
    exact Eq.trans (congrArg Int.toNat (congrArg₂ (· + ·) s0 (congrArg Nat.cast w0)))
      (show ((off : ℤ) + (k.val : ℕ)).toNat = off + k.val by omega)
  | ⟨1, _⟩ =>
    exact Eq.trans (congrArg Int.toNat (congrArg₂ (· + ·) s1 (congrArg Nat.cast w1)))
      (show ((0 : ℤ) + (j.val : ℕ)).toNat = j.val by omega)

/-- A block of `p` rows set into the table at a row: its rows are then the block's, -/
theorem set_hit {α : Type} {p : ℕ} (d : ScatterDims S23x128 S1 ⟨2, ![p, 128]⟩) (hu : d.updateWindowDims = [0, 1])
    (hi : d.insertedWindowDims = []) (hs : d.scatterDimsToOperandDims = [0]) (off : ℕ) (ho : off + p ≤ 23)
    (idx : IVec S1 32) (hx : ∀ i, idx i = BitVec.ofNat 32 off) (x : S23x128.Idx → α) (upd : (⟨2, ![p, 128]⟩ : Shape).Idx → α)
    (k : Fin p) (j : Fin 128) :
    Host.scatter d (fun _ b => b) x idx upd (ix2 ⟨off + k.val, by omega⟩ j) = upd (ix2 k j) := by
  refine Routing.scatter_set_hit d x idx upd _ _ (fun q hq => ?_) (ix2 k j) (lands d hu hi hs off ho idx hx k j)
  obtain ⟨a, b, rfl⟩ : ∃ a b, q = ix2 a b := ⟨q 0, q 1, (ix2_eta q).symm⟩
  rw [lands d hu hi hs off ho idx hx a b] at hq
  have e := Option.some.inj hq
  have e0 : off + a.val = off + k.val := congrArg (fun i => (i 0).val) e
  have e1 : b = j := congrFun e 1
  rw [e1, Fin.ext (show a.val = k.val by omega)]

/-- and the rows above it are as they were. -/
theorem set_miss {α : Type} {p : ℕ} (d : ScatterDims S23x128 S1 ⟨2, ![p, 128]⟩) (hu : d.updateWindowDims = [0, 1])
    (hi : d.insertedWindowDims = []) (hs : d.scatterDimsToOperandDims = [0]) (off : ℕ) (ho : off + p ≤ 23)
    (idx : IVec S1 32) (hx : ∀ i, idx i = BitVec.ofNat 32 off) (x : S23x128.Idx → α) (upd : (⟨2, ![p, 128]⟩ : Shape).Idx → α)
    (k : Fin 23) (hk : k.val < off) (j : Fin 128) :
    Host.scatter d (fun _ b => b) x idx upd (ix2 k j) = x (ix2 k j) := by
  refine Routing.scatter_set_miss d x idx upd _ fun q hq => ?_
  obtain ⟨a, b, rfl⟩ : ∃ a b, q = ix2 a b := ⟨q 0, q 1, (ix2_eta q).symm⟩
  rw [lands d hu hi hs off ho idx hx a b] at hq
  have e0 : off + a.val = k.val := congrArg (fun i => (i 0).val) (Option.some.inj hq)
  omega

/-- The table's first seven rows are the features' weights, -/
theorem table_feats (k : Fin 7) (j : Fin 128) :
    V m c main_v7 (ix2 ⟨k.val, by omega⟩ j) = m ((c.tc : Thread nD τ).loc main_arg3) (ix2 k j) := by
  unfold V
  after_reads_at
  refine (set_miss _ rfl rfl rfl 7 (by omega) _ (fun _ => rfl) _ _ ⟨k.val, by omega⟩ k.isLt j).trans ?_
  have h := set_hit scatter_S23x128_S1_S7x128_01_n_0_0 rfl rfl rfl 0 (by omega)
    (broadcastInDim S1 ![] bcast_S_S1 (constantI S_ 32 0#32)) (fun _ => rfl)
    (broadcastInDim S23x128 ![] bcast_S_S23x128 (constant (F := F) S_ FTy.f32 0#32)) (m ((c.tc : Thread nD τ).loc main_arg3)) k j
  simp only [Nat.zero_add] at h
  exact h

/-- and the ten after them the degrees' rows, the bias added to each. -/
theorem table_degs (k : Fin 10) (j : Fin 128) :
    V m c main_v7 (ix2 ⟨7 + k.val, by omega⟩ j)
      = FloatOps.addf (m ((c.tc : Thread nD τ).loc main_arg5) (ix2 k j)) (m ((c.tc : Thread nD τ).loc main_arg4) (ix1 j)) := by
  unfold V
  after_reads_at
  refine (set_hit _ rfl rfl rfl 7 (by omega) _ (fun _ => rfl) _ _ k j).trans ?_
  pointwise

end Cert.NodeRows

end
-- ==== Proof.ResultValue.lean ====
/-
  The kernel's result over the extended reals: every block left by the body holds the elements of the result at its rows
  inside the array, whatever fills the features' block past the array's end.
-/
module

public import proofs.«01_k».proof.Proof.Run
public import proofs.«01_k».proof.Proof.BlockValue
public import proofs.«01_k».proof.Proof.HostArrays
public import proofs.«01_k».proof.Proof.Entry
public import Idealize.ShloMosaic.Lib.Pipeline.ValueKit

@[expose] public section

noncomputable section

namespace Cert.NodeRows

open Cert.KernelIdeal Cert.KernelIdeal.Gen
open Idealize.ShloMosaic Idealize.ShloMosaic.TcCoe
open Idealize.ShloMosaic.Pipeline (Dat RDat)
open scoped BigOperators

variable (m : (ℓ : Loc nD τ sig) → Buf (Elt Ideal) ℓ) (c : Dev nD)

/-- The two partial counts of a row, added. -/
abbrev degree (r : Fin 100000) : BitVec 32 :=
  IntOp.addi (m ((c.tc : Thread nD τ).loc main_arg1) (ix1 ⟨r.val, by omega⟩))
    (m ((c.tc : Thread nD τ).loc main_arg2) (ix1 ⟨r.val, by omega⟩))

/-! ## Where the blocks lie -/

theorem index_0 : ∀ t : Fin cfg0.N, win0_0.index t = ![t.val, 0, 0] := by decide +kernel
theorem index_1 : ∀ t : Fin cfg0.N, win0_1.index t = ![t.val, 0, 0] := by decide +kernel
theorem index_2 : ∀ t : Fin cfg0.N, win0_2.index t = ![0, t.val] := by decide +kernel
theorem index_3 : ∀ t : Fin cfg0.N, win0_3.index t = ![0, 0] := by decide +kernel
theorem index_4 : ∀ t : Fin cfg0.N, win0_4.index t = ![t.val, 0] := by decide +kernel

/-- The features' block keeps its seven rows, -/
theorem kept_2_0 : ∀ t : Fin cfg0.N, win0_2.xsize (grid0.coords t) 0 = 7 := by decide +kernel
/-- and as many columns as the array has left. -/
theorem kept_2_1 : ∀ t : Fin cfg0.N, win0_2.xsize (grid0.coords t) 1 = min 12544 (100000 - t.val * 12544) := by decide +kernel
theorem kept_4_0 : ∀ t : Fin cfg0.N, win0_4.xsize (grid0.coords t) 0 = min 12544 (100000 - t.val * 12544) := by decide +kernel
theorem kept_4_1 : ∀ t : Fin cfg0.N, win0_4.xsize (grid0.coords t) 1 = 128 := by decide +kernel

/-! ## The blocks of the inputs -/

/-- The first counts' block at a point, -/
theorem block_counts0 (t : Fin cfg0.N) (r : Fin 12544) :
    iblk m c 0 t (ix3 0 0 r) = m ((c.tc : Thread nD τ).loc main_arg1) (ix1 ⟨t.val * 12544 + r.val, by have : t.val < 8 := t.isLt; omega⟩) := by
  refine Eq.trans ?_ (counts0_at m c t r)
  have e := index_0 t
  blk_simp [iblk, e]
  refine congrArg _ ?_
  blk_ext [e]

/-- the second counts', -/
theorem block_counts1 (t : Fin cfg0.N) (r : Fin 12544) :
    iblk m c 1 t (ix3 0 0 r) = m ((c.tc : Thread nD τ).loc main_arg2) (ix1 ⟨t.val * 12544 + r.val, by have : t.val < 8 := t.isLt; omega⟩) := by
  refine Eq.trans ?_ (counts1_at m c t r)
  have e := index_1 t
  blk_simp [iblk, e]
  refine congrArg _ ?_
  blk_ext [e]

/-- the table's, which is the table, -/
theorem block_table (t : Fin cfg0.N) (k : Fin 23) (j : Fin 128) : iblk m c 3 t (ix2 k j) = V m c main_v7 (ix2 k j) := by
  have e := index_3 t
  blk_simp [iblk, e]
  refine congrArg _ ?_
  blk_ext [e]

/-- and the features', at a column inside the array. -/
theorem block_feats (t : Fin cfg0.N) (d : S7x12544.Idx → Elt Ideal .f32) (k : Fin 7) (r : Fin 12544)
    (h : t.val * 12544 + r.val < 100000) :
    featBlk m c t d (ix2 k r) = m ((c.tc : Thread nD τ).loc main_arg0) (ix2 ⟨t.val * 12544 + r.val, h⟩ k) := by
  refine Eq.trans ?_ (feats_at m c k ⟨t.val * 12544 + r.val, h⟩)
  have hb : ∀ a, (ix2 k r a : ℕ) < win0_2.xsize (grid0.coords t) a := fun a => by
    match a with
    | ⟨0, _⟩ => exact lt_of_lt_of_eq k.isLt (kept_2_0 t).symm
    | ⟨1, _⟩ => exact lt_of_lt_of_eq (show r.val < min 12544 (100000 - t.val * 12544) by omega) (kept_2_1 t).symm
  refine (win0_2.fill_xinj (grid0.coords t) d (iblk m c 2 t) fun a => ⟨ix2 k r a, hb a⟩).trans ?_
  have e := index_2 t
  blk_simp [iblk, e]
  refine congrArg _ ?_
  blk_ext [e]

/-! ## The result -/

/-- What a point leaves at a row inside the array: the result's element. -/
theorem left_apply (t : Fin cfg0.N) (X : S12544x128.Idx → Elt Ideal .f32) (hX : Left m c t X) (r : Fin 12544) (j : Fin 128)
    (h : t.val * 12544 + r.val < 100000) (n : Fin 20) (hn : degree m c ⟨t.val * 12544 + r.val, h⟩ = BitVec.ofNat 32 n.val) :
    X (ix2 r j) = entry (m ((c.tc : Thread nD τ).loc main_arg0)) (m ((c.tc : Thread nD τ).loc main_arg3))
      (m ((c.tc : Thread nD τ).loc main_arg4)) (m ((c.tc : Thread nD τ).loc main_arg5)) ⟨t.val * 12544 + r.val, h⟩ j
      ⟨n.val / 2, by omega⟩ := by
  obtain ⟨d, rfl⟩ := hX
  rw [rowsOf_apply _ _ _ _ r j n (by rw [block_counts0, block_counts1]; exact hn), block_table,
    table_degs m c ⟨n.val / 2, by omega⟩ j, Finset.sum_congr rfl fun k _ => by rw [block_feats m c t d k r h, block_table, table_feats]]
  unfold entry
  rw [add_assoc]
  exact congrArg (_ + ·) (add_comm _ _)

/-- The result's array after the run is any array whose elements are the result's. -/
theorem result_eq (after : (w : Fin cfg0.W) → Fin cfg0.N → (cfg0.win w).block.Idx → Elt Ideal (cfg0.win w).elt)
    (hl : ∀ t, Left m c t (after 4 t)) (hs : ∀ r, ∃ n : Fin 20, degree m c r = BitVec.ofNat 32 n.val)
    (G : Buf (Elt Ideal) ((c.tc : Thread nD τ).loc main_v11))
    (hG : ∀ (r : Fin 100000) (j : Fin 128) (n : Fin 20), degree m c r = BitVec.ofNat 32 n.val →
      G (ix2 r j) = entry (m ((c.tc : Thread nD τ).loc main_arg0)) (m ((c.tc : Thread nD τ).loc main_arg3))
        (m ((c.tc : Thread nD τ).loc main_arg4)) (m ((c.tc : Thread nD τ).loc main_arg5)) r j ⟨n.val / 2, by omega⟩) :
    ((rdat m c).withAfter after).arrAt 4 cfg0.N = G := by
  refine Dat.arrAt_eq_of_covers ((rdat m c).withAfter after) 4 G (by decide +kernel) fun t _ y => ?_
  have h0 := lt_of_lt_of_eq (y 0).isLt (kept_4_0 t)
  have h1 := lt_of_lt_of_eq (y 1).isLt (kept_4_1 t)
  rw [RDat.withAfter_after]
  have hr : t.val * 12544 + (y 0).val < 100000 := by omega
  obtain ⟨n, hn⟩ := hs ⟨_, hr⟩
  have hx := (left_apply m c t _ (hl t) ⟨y 0, by omega⟩ ⟨y 1, h1⟩ hr n hn).trans (hG _ _ n hn).symm
  have e := index_4 t
  have he : (win0_4.blk t).view.emb y = ix2 ⟨t.val * 12544 + (y 0).val, hr⟩ ⟨y 1, h1⟩ := by blk_ext [e]
  have hy : win0_4.xinj (grid0.coords t) y = ix2 ⟨y 0, by omega⟩ ⟨y 1, h1⟩ := (ix2_eta _).symm
  exact (congrArg (after 4 t) hy).trans (hx.trans (congrArg G he.symm))

end Cert.NodeRows

end
-- ==== Proof.lean ====
/-
  The certificate of the node-feature call: the frames, the idealization and the equation with the reference.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_in_table
public import proofs.«01_k».proof.Proof.Run
public import proofs.«01_k».proof.Proof.RefValue
public import proofs.«01_k».proof.Proof.ResultValue

@[expose] public section

noncomputable section

namespace Cert.Proof

open Idealize.ShloMosaic Idealize.SL.Sem

set_option smartUnfolding false in
/-- The printed kernel and its idealization have one text, so the run of the second at the bit-exact values is the run
    of the first. -/
theorem frame_kernel : Cert.quiescent_Kernel := fun m ρ _ =>
  (θ_run Cert.KernelIdeal.defs _ _).mono (fun _ h => h.1) (Cert.NodeRows.run (F := Bits) m ρ)

theorem frame_ideal : Cert.quiescent_KernelIdeal := fun m ρ _ =>
  (θ_run Cert.KernelIdeal.defs _ _).mono (fun _ h => h.1) (Cert.NodeRows.run (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

open Cert.NodeRows in
/-- What the precondition says of the counts: every row's two add to a number below twenty. -/
theorem degree_small (m : (ℓ : Loc Cert.KernelIdeal.nD Cert.KernelIdeal.τ Cert.KernelIdeal.sig) → Buf (Elt Ideal) ℓ)
    (h : Cert.Pre_KernelIdeal_in_table m) (c : Dev Cert.KernelIdeal.nD) (r : Fin 100000) :
    ∃ n : Fin 20, degree m c r = BitVec.ofNat 32 n.val := by
  have e := congrFun (h c) ix0
  unfold Cert.Pre_in_table.fn at e
  have := Host.reduce_andi_all _ _ _ _ _ e (ix1 r)
  refine small_of_checks _ ?_
  rw [← this]
  pointwise

open Cert.NodeRows in
/-- The kernel's result is the reference's. -/
theorem value : Cert.algebraic_KernelIdeal_ReferenceIdeal_pre_in_table := fun m g m' g' hp ha => by
  refine ⟨fun c => Cert.ReferenceIdeal.Value.res_out0 m' c, ?_, ?_⟩
  · refine (θ_run Cert.KernelIdeal.defs _ _).mono (fun r h c => ⟨?_, h.1.1 c⟩) (run (F := Ideal) m g)
    obtain ⟨after, hl, hr⟩ := h.2 c
    refine hr.trans (result_eq m c after hl (degree_small m hp c) _ fun r j n hn => ?_)
    obtain ⟨a0, a1, a2, a3, a4, a5⟩ := ha c
    rw [← a0, ← a3, ← a4, ← a5]
    have hd := degree_small m hp c
    unfold degree at hd hn
    rw [← a1, ← a2] at hd hn
    exact Plain.result_apply m' c hd r j n hn
  · exact (θ_run Cert.ReferenceIdeal.defs _ _).mono (fun _ h c => h c) (Cert.ReferenceIdeal.Value.run m' g')

theorem claim : Cert.Claim := ⟨Cert.Kernel.Gen.facts, Cert.KernelIdeal.Gen.facts, Cert.ReferenceIdeal.Gen.facts, Cert.Pre_in_table.Gen.facts,
  frame_kernel, frame_ideal, fun m ρ _ => frame_ideal m ρ trivial, frame_reference,
  fun m ρ _ => frame_reference m ρ trivial, trivial, value⟩

end Cert.Proof

end
